-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_normal [hPre_normal : Cert.Pre_normal.Facts] (m : (ℓ : Loc Cert.KernelIdeal.nD Cert.KernelIdeal.τ Cert.KernelIdeal.sig) → Buf (Elt Ideal) ℓ) : Prop :=
  ∀ c : Dev Cert.KernelIdeal.nD,
    (Cert.Pre_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_normal [hPre_normal : Cert.Pre_normal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_normal [hKernelIdeal : Cert.KernelIdeal.Facts] [hPre_normal : Cert.Pre_normal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_normal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_normal [hReferenceIdeal : Cert.ReferenceIdeal.Facts] [hPre_normal : Cert.Pre_normal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_normal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_normal [hKernelIdeal : Cert.KernelIdeal.Facts] [hReferenceIdeal : Cert.ReferenceIdeal.Facts] [hPre_normal : Cert.Pre_normal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_normal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_normal : Cert.Pre_normal.Facts),
    quiescent_Kernel (hKernel := hKernel)
    ∧ quiescent_KernelIdeal (hKernelIdeal := hKernelIdeal)
    ∧ quiescent_KernelIdeal_pre_normal (hKernelIdeal := hKernelIdeal) (hPre_normal := hPre_normal)
    ∧ quiescent_ReferenceIdeal (hReferenceIdeal := hReferenceIdeal)
    ∧ quiescent_ReferenceIdeal_pre_normal (hReferenceIdeal := hReferenceIdeal) (hPre_normal := hPre_normal)
    ∧ preserves_Kernel_KernelIdeal
    ∧ algebraic_KernelIdeal_ReferenceIdeal_pre_normal (hKernelIdeal := hKernelIdeal) (hReferenceIdeal := hReferenceIdeal) (hPre_normal := hPre_normal)
-- ==== Pre_normal.lean ====
abbrev S2x8192x16384 : Shape := ⟨3, ![2, 8192, 16384]⟩
abbrev S16384 : Shape := ⟨1, ![16384]⟩
abbrev S8x128 : Shape := ⟨2, ![8, 128]⟩
abbrev S16384x2048 : Shape := ⟨2, ![16384, 2048]⟩
abbrev S_ : Shape := ⟨0, ![]⟩

class Facts : Prop where
  reducesTo_S8x128_S_d0_1 : S8x128.ReducesTo [0, 1] S_
  h_S_ : 0 < S_.numel

variable [Facts]

def fn {F : FTy → Type} [FloatOps F] (main_arg0 : FVec F S2x8192x16384 .bf16) (main_arg1 : FVec F S16384 .bf16) (main_arg2 : FVec F S16384 .f32) (main_arg3 : FVec F S8x128 .f32) (main_arg4 : FVec F S16384x2048 .fp8e4m3) (main_arg5 : FVec F S_ .f32) : IVec S_ 1 :=
  let main_cst : FVec F S_ .f32 := constant S_ .f32 0xFF800000#32
  let main_v0 : FVec F S_ .f32 := (fun x v => Host.reduce FloatOps.maximumf x v reducesTo_S8x128_S_d0_1 h_S_) main_arg3 main_cst
  let main_cst_0 : FVec F S_ .f32 := constant S_ .f32 0x3B124925#32
  let main_v1 : FVec F S_ .f32 := mulf main_v0 main_cst_0
  let main_cst_1 : FVec F S_ .f32 := constant S_ .f32 0x00000000#32
  let main_v2 : IVec S_ 1 := cmpf .oeq main_v1 main_cst_1
  let main_cst_2 : FVec F S_ .f32 := constant S_ .f32 0x00800000#32
  let main_v3 : IVec S_ 1 := cmpf .oge main_v1 main_cst_2
  let main_cst_3 : FVec F S_ .f32 := constant S_ .f32 0x7E800000#32
  let main_v4 : IVec S_ 1 := cmpf .olt main_v1 main_cst_3
  let main_v5 : IVec S_ 1 := andi main_v3 main_v4
  let main_v6 : IVec S_ 1 := ori main_v2 main_v5
  main_v6
-- ==== Kernel.lean ====
abbrev S2x8192x16384 : Shape := ⟨3, ![2, 8192, 16384]⟩
abbrev S16384 : Shape := ⟨1, ![16384]⟩
abbrev S8x128 : Shape := ⟨2, ![8, 128]⟩
abbrev S16384x2048 : Shape := ⟨2, ![16384, 2048]⟩
abbrev S_ : Shape := ⟨0, ![]⟩
abbrev S16384x16384 : Shape := ⟨2, ![16384, 16384]⟩
abbrev S1x16384 : Shape := ⟨2, ![1, 16384]⟩
abbrev S16384x1 : Shape := ⟨2, ![16384, 1]⟩
abbrev S16384x128 : Shape := ⟨2, ![16384, 128]⟩
abbrev S1x1 : Shape := ⟨2, ![1, 1]⟩
abbrev S256x16384 : Shape := ⟨2, ![256, 16384]⟩
abbrev S256x128 : Shape := ⟨2, ![256, 128]⟩
abbrev S256x2048 : Shape := ⟨2, ![256, 2048]⟩
abbrev S1x8x128 : Shape := ⟨3, ![1, 8, 128]⟩
abbrev S1 : Shape := ⟨1, ![1]⟩
abbrev S1x1x1 : Shape := ⟨3, ![1, 1, 1]⟩
abbrev S32x128 : Shape := ⟨2, ![32, 128]⟩
abbrev S1x128 : Shape := ⟨2, ![1, 128]⟩
abbrev S2048x2048 : Shape := ⟨2, ![2048, 2048]⟩

abbrev nBuf : Space → Nat
  | .hbm => 15
  | .vmem => 14
  | .smem => 0
  | _ => 0

abbrev bufTy : (tb : Table) → Fin (tcTables nBuf tb) → BufTy
  | .hbm, ⟨0, _⟩ => ⟨S2x8192x16384, .bf16⟩
  | .hbm, ⟨1, _⟩ => ⟨S16384, .bf16⟩
  | .hbm, ⟨2, _⟩ => ⟨S16384, .f32⟩
  | .hbm, ⟨3, _⟩ => ⟨S8x128, .f32⟩
  | .hbm, ⟨4, _⟩ => ⟨S16384x2048, .fp8e4m3⟩
  | .hbm, ⟨5, _⟩ => ⟨S_, .f32⟩
  | .hbm, ⟨6, _⟩ => ⟨S16384x16384, .bf16⟩
  | .hbm, ⟨7, _⟩ => ⟨S16384, .f32⟩
  | .hbm, ⟨8, _⟩ => ⟨S1x16384, .f32⟩
  | .hbm, ⟨9, _⟩ => ⟨S16384x1, .f32⟩
  | .hbm, ⟨10, _⟩ => ⟨S16384x128, .f32⟩
  | .hbm, ⟨11, _⟩ => ⟨S1x1, .f32⟩
  | .hbm, ⟨12, _⟩ => ⟨S16384x2048, .bf16⟩
  | .hbm, ⟨13, _⟩ => ⟨S16384x16384, .fp8e4m3⟩
  | .hbm, ⟨14, _⟩ => ⟨S1x1, .f32⟩
  | .local _ .vmem, ⟨0, _⟩ => ⟨S256x16384, .bf16⟩
  | .local _ .vmem, ⟨1, _⟩ => ⟨S256x16384, .bf16⟩
  | .local _ .vmem, ⟨2, _⟩ => ⟨S1x16384, .f32⟩
  | .local _ .vmem, ⟨3, _⟩ => ⟨S16384x2048, .fp8e4m3⟩
  | .local _ .vmem, ⟨4, _⟩ => ⟨S256x128, .f32⟩
  | .local _ .vmem, ⟨5, _⟩ => ⟨S256x128, .f32⟩
  | .local _ .vmem, ⟨6, _⟩ => ⟨S8x128, .f32⟩
  | .local _ .vmem, ⟨7, _⟩ => ⟨S1x1, .f32⟩
  | .local _ .vmem, ⟨8, _⟩ => ⟨S256x2048, .bf16⟩
  | .local _ .vmem, ⟨9, _⟩ => ⟨S256x2048, .bf16⟩
  | .local _ .vmem, ⟨10, _⟩ => ⟨S256x16384, .fp8e4m3⟩
  | .local _ .vmem, ⟨11, _⟩ => ⟨S256x16384, .fp8e4m3⟩
  | .local _ .vmem, ⟨12, _⟩ => ⟨S1x1, .f32⟩
  | .local _ .vmem, ⟨13, _⟩ => ⟨S256x2048, .f32⟩
  | _, _ => ⟨S2x8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16384x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x16384 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S2x8192x16384 : Shape := ⟨3, ![2, 8192, 16384]⟩
abbrev S16384 : Shape := ⟨1, ![16384]⟩
abbrev S8x128 : Shape := ⟨2, ![8, 128]⟩
abbrev S16384x2048 : Shape := ⟨2, ![16384, 2048]⟩
abbrev S_ : Shape := ⟨0, ![]⟩
abbrev S16384x16384 : Shape := ⟨2, ![16384, 16384]⟩
abbrev S1x16384 : Shape := ⟨2, ![1, 16384]⟩
abbrev S16384x1 : Shape := ⟨2, ![16384, 1]⟩
abbrev S1x1 : Shape := ⟨2, ![1, 1]⟩
abbrev S1x8x128 : Shape := ⟨3, ![1, 8, 128]⟩
abbrev S1 : Shape := ⟨1, ![1]⟩
abbrev S1x1x1 : Shape := ⟨3, ![1, 1, 1]⟩

abbrev nBuf : Space → Nat
  | .hbm => 13
  | .vmem => 9
  | .smem => 0
  | _ => 0

abbrev bufTy : (tb : Table) → Fin (tcTables nBuf tb) → BufTy
  | .hbm, ⟨0, _⟩ => ⟨S2x8192x16384, .bf16⟩
  | .hbm, ⟨1, _⟩ => ⟨S16384, .bf16⟩
  | .hbm, ⟨2, _⟩ => ⟨S16384, .f32⟩
  | .hbm, ⟨3, _⟩ => ⟨S8x128, .f32⟩
  | .hbm, ⟨4, _⟩ => ⟨S16384x2048, .fp8e4m3⟩
  | .hbm, ⟨5, _⟩ => ⟨S_, .f32⟩
  | .hbm, ⟨6, _⟩ => ⟨S16384x16384, .bf16⟩
  | .hbm, ⟨7, _⟩ => ⟨S1x16384, .bf16⟩
  | .hbm, ⟨8, _⟩ => ⟨S16384x1, .f32⟩
  | .hbm, ⟨9, _⟩ => ⟨S1x1, .f32⟩
  | .hbm, ⟨10, _⟩ => ⟨S16384x2048, .bf16⟩
  | .hbm, ⟨11, _⟩ => ⟨S16384x16384, .fp8e4m3⟩
  | .hbm, ⟨12, _⟩ => ⟨S1x1, .f32⟩
  | .local _ .vmem, ⟨0, _⟩ => ⟨S16384x16384, .bf16⟩
  | .local _ .vmem, ⟨1, _⟩ => ⟨S1x16384, .bf16⟩
  | .local _ .vmem, ⟨2, _⟩ => ⟨S16384x1, .f32⟩
  | .local _ .vmem, ⟨3, _⟩ => ⟨S8x128, .f32⟩
  | .local _ .vmem, ⟨4, _⟩ => ⟨S16384x2048, .fp8e4m3⟩
  | .local _ .vmem, ⟨5, _⟩ => ⟨S1x1, .f32⟩
  | .local _ .vmem, ⟨6, _⟩ => ⟨S16384x2048, .bf16⟩
  | .local _ .vmem, ⟨7, _⟩ => ⟨S16384x16384, .fp8e4m3⟩
  | .local _ .vmem, ⟨8, _⟩ => ⟨S1x1, .f32⟩
  | _, _ => ⟨S2x8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S16384x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x16384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16384x16384 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Pieces.lean ====
/- What the main call's body stores at one grid point, as lists of pieces built by recursion: the code tiles in the order
   the body stores them, the accumulator after each chunk product, and the three outputs. Each list the run found is one
   of these, by unfolding. -/
module

public import proofs.«01_k».proof.Proof.Gen.KernelIdeal.Value

@[expose] public section

set_option maxRecDepth 65536

noncomputable section

namespace Cert.KernelIdeal.Val

open Cert.KernelIdeal Cert.KernelIdeal.Gen Idealize.ShloMosaic Idealize.ShloMosaic.TcCoe Idealize.SL.Sem

variable {F : FTy → Type} [FloatOps F]

/-- Tile `q`'s offset in the block of rows: tiles run down the 8 row tiles of a column tile, then to the next column tile. -/
abbrev offX (q : ℕ) : Fin 2 → ℕ := ![32 * (q % 8), 128 * (q / 8 % 128)]

/-- Tile `q`'s offset among the row scales. -/
abbrev offR (q : ℕ) : Fin 2 → ℕ := ![32 * (q % 8), 0]

/-- Tile `q`'s offset among the channel factors. -/
abbrev offG (q : ℕ) : Fin 2 → ℕ := ![0, 128 * (q / 8 % 128)]

/-- Chunk `n`'s offset in the block of codes, and among the weights. -/
abbrev offC (n : ℕ) : Fin 2 → ℕ := ![0, 2048 * (n % 8)]
abbrev offW (n : ℕ) : Fin 2 → ℕ := ![2048 * (n % 8), 0]

theorem inbX (q : ℕ) : ∀ a, offX q a + S32x128.size a ≤ S256x16384.size a :=
  Fin.forall_fin_two.mpr ⟨by show 32 * (q % 8) + 32 ≤ 256; omega, by show 128 * (q / 8 % 128) + 128 ≤ 16384; omega⟩
theorem inbR (q : ℕ) : ∀ a, offR q a + S32x128.size a ≤ S256x128.size a :=
  Fin.forall_fin_two.mpr ⟨by show 32 * (q % 8) + 32 ≤ 256; omega, by show 0 + 128 ≤ 128; omega⟩
theorem inbG (q : ℕ) : ∀ a, offG q a + S1x128.size a ≤ S1x16384.size a :=
  Fin.forall_fin_two.mpr ⟨by show 0 + 1 ≤ 1; omega, by show 128 * (q / 8 % 128) + 128 ≤ 16384; omega⟩
theorem inbC (n : ℕ) : ∀ a, offC n a + S256x2048.size a ≤ S256x16384.size a :=
  Fin.forall_fin_two.mpr ⟨by show 0 + 256 ≤ 256; omega, by show 2048 * (n % 8) + 2048 ≤ 16384; omega⟩
theorem inbW (n : ℕ) : ∀ a, offW n a + S2048x2048.size a ≤ S16384x2048.size a :=
  Fin.forall_fin_two.mpr ⟨by show 2048 * (n % 8) + 2048 ≤ 16384; omega, by show 0 + 2048 ≤ 2048; omega⟩

/-- The inverse scale from the partial maxima. -/
abbrev invOf (v : Vec F S8x128 .f32) : FVec F S1x1 .f32 := k0_pay5 (k0_pay4 v)

/-- One tile of codes from the inverse scale, its row scales, its activations and its channel factors. -/
abbrev tile (inv : FVec F S1x1 .f32) (r : Vec F S32x128 .f32) (x : Vec F S32x128 .bf16) (g : Vec F S1x128 .f32) : FVec F S32x128 .fp8e4m3 :=
  k0_pay10 inv r x g

/-- The first `n` code tiles, last first. -/
def tiles (inv : FVec F S1x1 .f32) (r : Vec F S256x128 .f32) (x : Vec F S256x16384 .bf16) (g : Vec F S1x16384 .f32) :
    ℕ → List (View.Piece (Elt F) S256x16384 .fp8e4m3)
  | 0 => []
  | q + 1 => ⟨Rect.unit (offX q) S32x128.size (inbX q),
      tile inv (View.ld r (Rect.unit (offR q) S32x128.size (inbR q))) (View.ld x (Rect.unit (offX q) S32x128.size (inbX q)))
        (View.ld g (Rect.unit (offG q) S1x128.size (inbG q)))⟩ :: tiles inv r x g q

/-- The accumulator after one more chunk product. -/
def accum (a : Vec F S256x2048 .f32) (p : Vec F S256x2048 .fp8e4m3) (w : Vec F S2048x2048 .fp8e4m3) : FVec F S256x2048 .f32 :=
  shapeCast S256x2048 (addf a (matmul dot_S256x2048_S2048x2048_S256x2048_1_0_0_1_n_n none
    (shapeCast S256x2048 p shapeCasts_S256x2048_S256x2048) w (constant S256x2048 .f32 0x00000000#32))) shapeCasts_S256x2048_S256x2048

/-- The accumulator's stores after the first `n` chunks, last first. -/
def accs (v8 : View sig .tc .vmem S256x16384 .fp8e4m3) (v10 : View sig .tc .vmem S256x2048 .f32)
    (inv : FVec F S1x1 .f32) (r : Vec F S256x128 .f32) (x : Vec F S256x16384 .bf16) (g : Vec F S1x16384 .f32) (w : Vec F S16384x2048 .fp8e4m3) :
    ℕ → List (View.Piece (Elt F) S256x2048 .f32)
  | 0 => [⟨Rect.unit ![0, 0] S256x2048.size inb_S256x2048_S256x2048_0_0, k0_pay6⟩]
  | n + 1 => ⟨Rect.unit ![0, 0] S256x2048.size inb_S256x2048_S256x2048_0_0,
      accum (v10.readCov (accs v8 v10 inv r x g w n) (Rect.unit ![0, 0] S256x2048.size inb_S256x2048_S256x2048_0_0).toLoadRect)
        (v8.readCov (tiles inv r x g (128 * (n + 1))) (Rect.unit (s := S256x16384) (offC n) S256x2048.size (inbC n)).toLoadRect)
        (View.ld w (Rect.unit (s := S16384x2048) (offW n) S2048x2048.size (inbW n)))⟩ :: accs v8 v10 inv r x g w n

variable (c : Dev nD) (i : grid0.Coords) (arg1 : Memref sig .tc .vmem S256x16384 .bf16) (harg1 : arg1.IsWhole) (arg2 : Memref sig .tc .vmem S1x16384 .f32) (harg2 : arg2.IsWhole) (arg3 : Memref sig .tc .vmem S16384x2048 .fp8e4m3) (harg3 : arg3.IsWhole) (arg4 : Memref sig .tc .vmem S256x128 .f32) (harg4 : arg4.IsWhole) (arg5 : Memref sig .tc .vmem S8x128 .f32) (harg5 : arg5.IsWhole) (arg6 : Memref sig .tc .vmem S1x1 .f32) (harg6 : arg6.IsWhole) (arg7 : Memref sig .tc .vmem S256x2048 .bf16) (harg7 : arg7.IsWhole) (arg8 : Memref sig .tc .vmem S256x16384 .fp8e4m3) (harg8 : arg8.IsWhole) (arg9 : Memref sig .tc .vmem S1x1 .f32) (harg9 : arg9.IsWhole) (arg10 : Memref sig .tc .vmem S256x2048 .f32) (harg10 : arg10.IsWhole)
    (x0 : Vec F S256x16384 .bf16) (x1 : Vec F S1x16384 .f32) (x2 : Vec F S16384x2048 .fp8e4m3) (x3 : Vec F S256x128 .f32) (x4 : Vec F S8x128 .f32) (x5 : Vec F S1x1 .f32)

/-- The partial maxima as the body loads them. -/
abbrev am : Vec F S8x128 .f32 := View.ld (arg5.view.read (Elt F) (harg5.unread x4)) (Rect.unit ![0, 0] S8x128.size inb_S8x128_S8x128_0_0)

set_option maxHeartbeats 0 in
theorem codes_run :
    (kernelRun0_A c i arg1 harg1 arg2 harg2 arg3 harg3 arg4 harg4 arg5 harg5 arg6 harg6 arg7 harg7 arg8 harg8 arg9 harg9 arg10 harg10 x0 x1 x2 x3 x4 x5).2.1
      = tiles (invOf (am arg5 harg5 x4)) (arg4.view.read (Elt F) (harg4.unread x3)) (arg1.view.read (Elt F) (harg1.unread x0)) (arg2.view.read (Elt F) (harg2.unread x1)) 1024 := by sl_kernel_rfl

set_option maxHeartbeats 0 in
theorem y_run :
    (kernelRun0_A c i arg1 harg1 arg2 harg2 arg3 harg3 arg4 harg4 arg5 harg5 arg6 harg6 arg7 harg7 arg8 harg8 arg9 harg9 arg10 harg10 x0 x1 x2 x3 x4 x5).1
      = [⟨Rect.unit ![0, 0] S256x2048.size inb_S256x2048_S256x2048_0_0,
          k0_pay1 (k0_pay3 (am arg5 harg5 x4))
            (arg10.view.readCov (accs arg8.view arg10.view (invOf (am arg5 harg5 x4)) (arg4.view.read (Elt F) (harg4.unread x3))
              (arg1.view.read (Elt F) (harg1.unread x0)) (arg2.view.read (Elt F) (harg2.unread x1)) (arg3.view.read (Elt F) (harg3.unread x2)) 8)
              (Rect.unit ![0, 0] S256x2048.size inb_S256x2048_S256x2048_0_0).toLoadRect)
            (View.ld (arg6.view.read (Elt F) (harg6.unread x5)) (Rect.unit ![0, 0] S1x1.size inb_S1x1_S1x1_0_0))⟩] := by sl_kernel_rfl

theorem scale_run :
    (kernelRun0_A c i arg1 harg1 arg2 harg2 arg3 harg3 arg4 harg4 arg5 harg5 arg6 harg6 arg7 harg7 arg8 harg8 arg9 harg9 arg10 harg10 x0 x1 x2 x3 x4 x5).2.2.1
      = [⟨Rect.unit ![0, 0] S1x1.size inb_S1x1_S1x1_0_0, k0_pay3 (am arg5 harg5 x4)⟩] := rfl

end Cert.KernelIdeal.Val

end
-- ==== Proof.Body.lean ====
/- What the main call's body leaves in its outputs at one grid point, entry by entry, over the extended reals: each code
   is its entry scaled and clipped, each product entry is one sum over the whole row. -/
module

public import proofs.«01_k».proof.Proof.Pieces
public import Idealize.ShloMosaic.Lib.Pointwise
public import Idealize.ShloMosaic.Lib.Pointwise.Reduce
public import Idealize.ShloMosaic.Lib.Pointwise.Reshape
public import Idealize.ShloMosaic.Lib.Pointwise.ShapeOps
public import Idealize.ShloMosaic.Lib.Pointwise.Contract
public import Idealize.ShloMosaic.Lib.Pointwise.Sums
public import Idealize.ShloMosaic.Lib.Pipeline.ValueKit.Geometry
public import Idealize.ShloMosaic.PureOps.Ideal.Laws

@[expose] public section

noncomputable section

namespace Cert.KernelIdeal.Val

open Cert.KernelIdeal Cert.KernelIdeal.Gen Idealize.ShloMosaic Idealize.ShloMosaic.TcCoe Idealize.SL.Sem

/-- One code from the inverse scale, the activation, its row scale and its channel factor. -/
abbrev cd (inv x r g : EReal) : EReal :=
  min (Ideal.ofBits .f32 0x43E00000#32) (max (Ideal.ofBits .f32 0xC3E00000#32) (x * r * g * inv))

theorem tile_apply (inv : FVec Ideal S1x1 .f32) (r : Vec Ideal S32x128 .f32) (x : Vec Ideal S32x128 .bf16) (g : Vec Ideal S1x128 .f32)
    (a : Fin 32) (b : Fin 128) :
    tile (F := Ideal) inv r x g (ix2 a b) = cd (inv (ix2 0 0)) (x (ix2 a b)) (r (ix2 a b)) (g (ix2 0 b)) := by
  unfold tile k0_pay10
  pointwise

theorem accum_apply (a : Vec Ideal S256x2048 .f32) (p : Vec Ideal S256x2048 .fp8e4m3) (w : Vec Ideal S2048x2048 .fp8e4m3)
    (j : Fin 256) (o : Fin 2048) :
    accum (F := Ideal) a p w (ix2 j o) = a (ix2 j o) + ∑ k : Fin 2048, p (ix2 j k) * w (ix2 k o) := by
  unfold accum
  pointwise

theorem fill_apply (j : Fin 256) (o : Fin 2048) : k0_pay6 (F := Ideal) (ix2 j o) = 0 := by
  unfold k0_pay6
  pointwise

theorem out_apply (s : FVec Ideal S1x1 .f32) (a : Vec Ideal S256x2048 .f32) (ws : Vec Ideal S1x1 .f32) (j : Fin 256) (o : Fin 2048) :
    k0_pay1 (F := Ideal) s a ws (ix2 j o) = a (ix2 j o) * (s (ix2 0 0) * ws (ix2 0 0)) := by
  unfold k0_pay1
  pointwise

end Cert.KernelIdeal.Val

end
-- ==== Proof.Tiles.lean ====
/- The code tiles and the accumulator read entry by entry: the first tiles hold the codes of the columns they cover, and
   the accumulator after `n` chunks is the sum over the first `n` chunks of columns. -/
module

public import proofs.«01_k».proof.Proof.Body

@[expose] public section

noncomputable section

namespace Cert.KernelIdeal.Val

open Cert.KernelIdeal Cert.KernelIdeal.Gen Idealize.ShloMosaic Idealize.ShloMosaic.TcCoe Idealize.SL.Sem

variable (inv : FVec Ideal S1x1 .f32) (r : Vec Ideal S256x128 .f32) (x : Vec Ideal S256x16384 .bf16) (g : Vec Ideal S1x16384 .f32)
  (w : Vec Ideal S16384x2048 .fp8e4m3)

/-- The code at row `j`, column `k` of the block. -/
def cdB (j : Fin 256) (k : Fin 16384) : EReal :=
  cd (inv (ix2 0 0)) (x (ix2 j k)) (r (ix2 j (⟨k.val % 128, Nat.mod_lt _ (by decide)⟩ : Fin 128))) (g (ix2 0 k))

theorem tiles_eq (n : ℕ) : ∀ p ∈ tiles (F := Ideal) inv r x g n, ∀ y : p.1.shape.Idx,
    p.2 y = (fun z : S256x16384.Idx => cdB inv r x g (z 0) (z 1)) (p.1.emb y) := by
  induction n with
  | zero => intro p hp; simp [tiles] at hp
  | succ q ih =>
    intro p hp
    rcases List.mem_cons.mp hp with rfl | hp
    · intro y
      obtain ⟨a, b, rfl⟩ : ∃ (a : Fin 32) (b : Fin 128), y = ix2 a b := ⟨y 0, y 1, eq_ix2 (n0 := 32) (n1 := 128) y⟩
      refine (tile_apply inv _ _ _ a b).trans ?_
      unfold cdB
      have e1 : ((Rect.unit (s := S256x16384) (offX q) S32x128.size (inbX q)).toLoadRect).idx (ix2 a b) =
          ix2 ((Rect.unit (s := S256x16384) (offX q) S32x128.size (inbX q)).emb (ix2 a b) 0) ((Rect.unit (s := S256x16384) (offX q) S32x128.size (inbX q)).emb (ix2 a b) 1) :=
        eq_ix2 (n0 := 256) (n1 := 16384) _
      have e2 : ((Rect.unit (s := S256x128) (offR q) S32x128.size (inbR q)).toLoadRect).idx (ix2 a b) =
          ix2 ((Rect.unit (s := S256x16384) (offX q) S32x128.size (inbX q)).emb (ix2 a b) 0)
            (⟨((Rect.unit (s := S256x16384) (offX q) S32x128.size (inbX q)).emb (ix2 a b) 1).val % 128, Nat.mod_lt _ (by decide)⟩ : Fin 128) := by
        refine (eq_ix2 (n0 := 256) (n1 := 128) _).trans (congrArg₂ _ (Fin.ext rfl) (Fin.ext ?_))
        show 0 + 1 * b.val = (128 * (q / 8 % 128) + 1 * b.val) % 128
        have := b.isLt; omega
      have e3 : ((Rect.unit (s := S1x16384) (offG q) S1x128.size (inbG q)).toLoadRect).idx (ix2 0 b) =
          ix2 0 ((Rect.unit (s := S256x16384) (offX q) S32x128.size (inbX q)).emb (ix2 a b) 1) :=
        (eq_ix2 (n0 := 1) (n1 := 16384) _).trans (congrArg₂ _ (Fin.ext rfl) (Fin.ext rfl))
      show cd _ (x _) (r _) (g _) = _
      rw [e1, e2, e3]
      rfl
    · exact ih p hp

theorem tile_mem (q : ℕ) : ∀ n, q < n → ∃ p ∈ tiles (F := Ideal) inv r x g n, p.1 = Rect.unit (s := S256x16384) (offX q) S32x128.size (inbX q)
  | 0, h => absurd h (Nat.not_lt_zero q)
  | n + 1, h => by
    by_cases e : q = n
    · subst e; exact ⟨_, List.mem_cons_self, rfl⟩
    · obtain ⟨p, hp, h'⟩ := tile_mem q n (by omega)
      exact ⟨p, List.mem_cons_of_mem _ hp, h'⟩

theorem codes_apply (n : ℕ) (j : Fin 256) (k : Fin 16384) (h : 8 * (k.val / 128) + j.val / 32 < n) :
    View.canon (tiles (F := Ideal) inv r x g n) (ix2 j k) = cdB inv r x g j k := by
  refine View.canon_apply_of_pieces (Val := Elt Ideal) (S := S256x16384) (e := .fp8e4m3) (fun z => cdB inv r x g (z 0) (z 1)) (tiles inv r x g n) (tiles_eq inv r x g n) (ix2 j k) ?_
  obtain ⟨p, hp, e⟩ := tile_mem inv r x g _ n h
  refine ⟨p, hp, ?_⟩
  rw [e]
  have hj := j.isLt
  have hk := k.isLt
  refine (LoadRect.mem_set _).mpr (Fin.forall_fin_two.mpr ⟨⟨j.val % 32, Nat.mod_lt _ (by decide), ?_⟩, ⟨k.val % 128, Nat.mod_lt _ (by decide), ?_⟩⟩)
  · show j.val = 32 * ((8 * (k.val / 128) + j.val / 32) % 8) + 1 * (j.val % 32)
    omega
  · show k.val = 128 * ((8 * (k.val / 128) + j.val / 32) / 8 % 128) + 1 * (k.val % 128)
    omega

/-- One term of the product's sum, zero past the row's end. -/
def term (j : Fin 256) (o : Fin 2048) (k : ℕ) : EReal :=
  if h : k < 16384 then cdB inv r x g j ⟨k, h⟩ * w (ix2 (⟨k, h⟩ : Fin 16384) o) else 0

variable (v8 : View sig .tc .vmem S256x16384 .fp8e4m3) (v10 : View sig .tc .vmem S256x2048 .f32)

theorem accs_apply (j : Fin 256) (o : Fin 2048) : ∀ n, n ≤ 8 →
    v10.readCov (accs (F := Ideal) v8 v10 inv r x g w n) (Rect.unit ![0, 0] S256x2048.size inb_S256x2048_S256x2048_0_0).toLoadRect (ix2 j o)
      = ∑ k ∈ Finset.range (2048 * n), term inv r x g w j o k
  | 0, _ => by
    rw [accs, View.readCov_cons_toLoadRect]
    exact (fill_apply j o).trans (by simp)
  | n + 1, h => by
    rw [accs, View.readCov_cons_toLoadRect]
    refine (accum_apply _ _ _ j o).trans ?_
    rw [accs_apply j o n (by omega), show 2048 * (n + 1) = 2048 * n + 2048 from rfl, Finset.sum_range_add]
    refine congrArg _ ((Finset.sum_congr rfl fun k _ => ?_).trans (Fin.sum_univ_eq_sum_range (fun k => term inv r x g w j o (2048 * n + k)) 2048))
    have hk := k.isLt
    have hj := j.isLt
    have hb : 2048 * n + k.val < 16384 := by omega
    unfold term
    rw [dif_pos hb, View.readCov_eq_canon']
    have e1 : ((Rect.unit (s := S256x16384) (offC n) S256x2048.size (inbC n)).toLoadRect).idx (ix2 j k) = ix2 j (⟨2048 * n + k.val, hb⟩ : Fin 16384) := by
      refine (eq_ix2 (n0 := 256) (n1 := 16384) _).trans (congrArg₂ _ (Fin.ext ?_) (Fin.ext ?_))
      · show 0 + 1 * j.val = j.val; omega
      · show 2048 * (n % 8) + 1 * k.val = 2048 * n + k.val; omega
    have e2 : ((Rect.unit (s := S16384x2048) (offW n) S2048x2048.size (inbW n)).toLoadRect).idx (ix2 k o) = ix2 (⟨2048 * n + k.val, hb⟩ : Fin 16384) o := by
      refine (eq_ix2 (n0 := 16384) (n1 := 2048) _).trans (congrArg₂ _ (Fin.ext ?_) (Fin.ext ?_))
      · show 2048 * (n % 8) + 1 * k.val = 2048 * n + k.val; omega
      · show 0 + 1 * o.val = o.val; omega
    show View.canon _ (((Rect.unit (s := S256x16384) (offC n) S256x2048.size (inbC n)).toLoadRect).idx (ix2 j k)) *
      w (((Rect.unit (s := S16384x2048) (offW n) S2048x2048.size (inbW n)).toLoadRect).idx (ix2 k o)) = _
    rw [e1, e2, codes_apply inv r x g _ j _ (by show 8 * ((2048 * n + k.val) / 128) + j.val / 32 < 128 * (n + 1); omega)]

/-- After the last chunk: the whole row's sum. -/
theorem acc_apply (j : Fin 256) (o : Fin 2048) :
    v10.readCov (accs (F := Ideal) v8 v10 inv r x g w 8) (Rect.unit ![0, 0] S256x2048.size inb_S256x2048_S256x2048_0_0).toLoadRect (ix2 j o)
      = ∑ k : Fin 16384, cdB inv r x g j k * w (ix2 k o) := by
  rw [accs_apply inv r x g w v8 v10 j o 8 le_rfl]
  refine (Fin.sum_univ_eq_sum_range (term inv r x g w j o) 16384).symm.trans (Finset.sum_congr rfl fun k _ => ?_)
  unfold term
  rw [dif_pos k.isLt]

end Cert.KernelIdeal.Val

end
-- ==== Proof.Outs.lean ====
/- The three outputs of the main call's body at one grid point, each entry a function of the input blocks. -/
module

public import proofs.«01_k».proof.Proof.Tiles

@[expose] public section

noncomputable section

namespace Cert.KernelIdeal.Val

open Cert.KernelIdeal Cert.KernelIdeal.Gen Idealize.ShloMosaic Idealize.ShloMosaic.TcCoe Idealize.SL.Sem

theorem off_zero : (![0, 0] : Fin 2 → ℕ) = fun _ => 0 := funext (Fin.forall_fin_two.mpr ⟨rfl, rfl⟩)

variable (c : Dev nD) (i : grid0.Coords) (arg1 : Memref sig .tc .vmem S256x16384 .bf16) (harg1 : arg1.IsWhole) (arg2 : Memref sig .tc .vmem S1x16384 .f32) (harg2 : arg2.IsWhole) (arg3 : Memref sig .tc .vmem S16384x2048 .fp8e4m3) (harg3 : arg3.IsWhole) (arg4 : Memref sig .tc .vmem S256x128 .f32) (harg4 : arg4.IsWhole) (arg5 : Memref sig .tc .vmem S8x128 .f32) (harg5 : arg5.IsWhole) (arg6 : Memref sig .tc .vmem S1x1 .f32) (harg6 : arg6.IsWhole) (arg7 : Memref sig .tc .vmem S256x2048 .bf16) (harg7 : arg7.IsWhole) (arg8 : Memref sig .tc .vmem S256x16384 .fp8e4m3) (harg8 : arg8.IsWhole) (arg9 : Memref sig .tc .vmem S1x1 .f32) (harg9 : arg9.IsWhole) (arg10 : Memref sig .tc .vmem S256x2048 .f32) (harg10 : arg10.IsWhole)
    (x0 : Vec Ideal S256x16384 .bf16) (x1 : Vec Ideal S1x16384 .f32) (x2 : Vec Ideal S16384x2048 .fp8e4m3) (x3 : Vec Ideal S256x128 .f32) (x4 : Vec Ideal S8x128 .f32) (x5 : Vec Ideal S1x1 .f32)

theorem am_eq : am (F := Ideal) arg5 harg5 x4 = x4 :=
  (View.ld_unit_zero off_zero _ _).trans (harg5.read_unread x4)

theorem out7_eq :
    out0_A_7 (F := Ideal) c i arg1 harg1 arg2 harg2 arg3 harg3 arg4 harg4 arg5 harg5 arg6 harg6 arg7 harg7 arg8 harg8 arg9 harg9 arg10 harg10 x0 x1 x2 x3 x4 x5
      = fun y => cdB (invOf x4) x3 x0 x1 (y 0) (y 1) := by
  unfold out0_A_7
  rw [codes_run, View.read_writes_junk_eq_canon, am_eq, harg4.read_unread, harg1.read_unread, harg2.read_unread]
  funext y
  obtain ⟨j, k, rfl⟩ : ∃ (j : Fin 256) (k : Fin 16384), y = ix2 j k := ⟨y 0, y 1, eq_ix2 (n0 := 256) (n1 := 16384) y⟩
  exact codes_apply _ _ _ _ 1024 j k (by have := j.isLt; have := k.isLt; omega)

theorem out6_eq :
    out0_A_6 (F := Ideal) c i arg1 harg1 arg2 harg2 arg3 harg3 arg4 harg4 arg5 harg5 arg6 harg6 arg7 harg7 arg8 harg8 arg9 harg9 arg10 harg10 x0 x1 x2 x3 x4 x5
      = fun y => (∑ k : Fin 16384, cdB (invOf x4) x3 x0 x1 (y 0) k * x2 (ix2 k (y 1)))
          * (k0_pay3 (F := Ideal) x4 (ix2 0 0) * x5 (ix2 0 0)) := by
  unfold out0_A_6
  rw [y_run, View.read_writes_junk_eq_canon, am_eq, harg4.read_unread, harg1.read_unread, harg2.read_unread, harg3.read_unread,
    harg6.read_unread, View.canon_unit_zero off_zero, View.ld_unit_zero off_zero]
  funext y
  obtain ⟨j, o, rfl⟩ : ∃ (j : Fin 256) (o : Fin 2048), y = ix2 j o := ⟨y 0, y 1, eq_ix2 (n0 := 256) (n1 := 2048) y⟩
  refine (out_apply _ _ _ j o).trans ?_
  rw [acc_apply]
  rfl

theorem out8_eq :
    out0_A_8 (F := Ideal) c i arg1 harg1 arg2 harg2 arg3 harg3 arg4 harg4 arg5 harg5 arg6 harg6 arg7 harg7 arg8 harg8 arg9 harg9 arg10 harg10 x0 x1 x2 x3 x4 x5
      = k0_pay3 (F := Ideal) x4 := by
  unfold out0_A_8
  rw [scale_run, View.read_writes_junk_eq_canon, am_eq, View.canon_unit_zero off_zero]

end Cert.KernelIdeal.Val

end
-- ==== Proof.Arrays.lean ====
/- The main call's three output arrays after the run, each entry a function of the arrays the call reads. -/
module

public import proofs.«01_k».proof.Proof.Outs

@[expose] public section

noncomputable section

namespace Cert.KernelIdeal.Val

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem ix_0 : ∀ t : Fin cfg0.N, win0_0.index t = ![t.val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![0, 0] := (by decide +kernel : ∀ t : Fin grid0.N, _)
theorem ix_3 : ∀ t : Fin cfg0.N, win0_3.index t = ![t.val, 0] := (by decide +kernel : ∀ t : Fin grid0.N, _)
theorem ix_4 : ∀ t : Fin cfg0.N, win0_4.index t = ![0, 0] := (by decide +kernel : ∀ t : Fin grid0.N, _)
theorem ix_5 : ∀ t : Fin cfg0.N, win0_5.index t = ![0, 0] := (by decide +kernel : ∀ t : Fin grid0.N, _)
theorem ix_6 : ∀ t : Fin cfg0.N, win0_6.index t = ![t.val, 0] := (by decide +kernel : ∀ t : Fin grid0.N, _)
theorem ix_7 : ∀ t : Fin cfg0.N, win0_7.index t = ![t.val, 0] := (by decide +kernel : ∀ t : Fin grid0.N, _)
theorem ix_8 : ∀ t : Fin cfg0.N, win0_8.index t = ![0, 0] := (by decide +kernel : ∀ t : Fin grid0.N, _)

/-- The row of the array that row `j` of point `t`'s block is. -/
abbrev row (t : Fin cfg0.N) (j : Fin 256) : Fin 16384 :=
  ⟨256 * t.val + j.val, by have h : t.val < 64 := t.isLt; have := j.isLt; omega⟩

theorem blk_0 (t : Fin cfg0.N) (j : Fin 256) (k : Fin 16384) :
    (iblk m c 0 t : Vec Ideal S256x16384 .bf16) (ix2 j k) = (V m c main_v0 : Vec Ideal S16384x16384 .bf16) (ix2 (row t j) k) := by
  blk_ext [iblk, ix_0]
theorem blk_1 (t : Fin cfg0.N) : (iblk m c 1 t : Vec Ideal S1x16384 .f32) = (V m c main_v2 : Vec Ideal S1x16384 .f32) := by
  funext y; blk_ext [iblk, ix_1]
theorem blk_2 (t : Fin cfg0.N) : (iblk m c 2 t : Vec Ideal S16384x2048 .fp8e4m3) = (V m c main_arg4 : Vec Ideal S16384x2048 .fp8e4m3) := by
  funext y; blk_ext [iblk, ix_2]
theorem blk_3 (t : Fin cfg0.N) (j : Fin 256) (k : Fin 128) :
    (iblk m c 3 t : Vec Ideal S256x128 .f32) (ix2 j k) = (V m c main_v4 : Vec Ideal S16384x128 .f32) (ix2 (row t j) k) := by
  blk_ext [iblk, ix_3]
theorem blk_4 (t : Fin cfg0.N) : (iblk m c 4 t : Vec Ideal S8x128 .f32) = (V m c main_arg3 : Vec Ideal S8x128 .f32) := by
  funext y; blk_ext [iblk, ix_4]
theorem blk_5 (t : Fin cfg0.N) : (iblk m c 5 t : Vec Ideal S1x1 .f32) = (V m c main_v5 : Vec Ideal S1x1 .f32) := by
  funext y; blk_ext [iblk, ix_5]

/-- The code at row `j`, column `k` of the whole array. -/
def cdA (j : Fin 16384) (k : Fin 16384) : EReal :=
  cd (invOf (F := Ideal) (V m c main_arg3) (ix2 0 0)) ((V m c main_v0 : Vec Ideal S16384x16384 .bf16) (ix2 j k))
    ((V m c main_v4 : Vec Ideal S16384x128 .f32) (ix2 j (⟨k.val % 128, Nat.mod_lt _ (by decide)⟩ : Fin 128)))
    ((V m c main_v2 : Vec Ideal S1x16384 .f32) (ix2 0 k))

theorem cdB_blk (t : Fin cfg0.N) (j : Fin 256) (k : Fin 16384) :
    cdB (invOf (F := Ideal) (iblk m c 4 t)) (iblk m c 3 t) (iblk m c 0 t) (iblk m c 1 t) j k = cdA m c (row t j) k := by
  rw [blk_4, blk_1]
  unfold cdB cdA
  rw [blk_0, blk_3]

theorem outs7 (t : Fin cfg0.N) : (outsAt0 m c t).2.1 = fun y : S256x16384.Idx => cdA m c (row t (y 0)) (y 1) := by
  simp only [outsAt0]
  rw [out7_eq]
  funext y
  exact cdB_blk m c t (y 0) (y 1)

theorem outs6 (t : Fin cfg0.N) : (outsAt0 m c t).1 = fun y : S256x2048.Idx =>
    (∑ k : Fin 16384, cdA m c (row t (y 0)) k * (V m c main_arg4 : Vec Ideal S16384x2048 .fp8e4m3) (ix2 k (y 1)))
      * (k0_pay3 (F := Ideal) (V m c main_arg3) (ix2 0 0) * (V m c main_v5 : Vec Ideal S1x1 .f32) (ix2 0 0)) := by
  simp only [outsAt0]
  rw [out6_eq]
  funext y
  obtain ⟨j, o, rfl⟩ : ∃ (j : Fin 256) (o : Fin 2048), y = ix2 j o := ⟨y 0, y 1, eq_ix2 (n0 := 256) (n1 := 2048) y⟩
  show (∑ k : Fin 16384, cdB (invOf (F := Ideal) (iblk m c 4 t)) (iblk m c 3 t) (iblk m c 0 t) (iblk m c 1 t) j k
    * (iblk m c 2 t : Vec Ideal S16384x2048 .fp8e4m3) (ix2 k o)) * _ = _
  rw [Finset.sum_congr rfl fun k _ => congrArg (· * _) (cdB_blk m c t j k), blk_2, blk_4, blk_5]
  rfl

theorem outs8 (t : Fin cfg0.N) : (outsAt0 m c t).2.2 = k0_pay3 (F := Ideal) (V m c main_arg3) := by
  simp only [outsAt0]
  rw [out8_eq, blk_4]

theorem arr7_eq : (dats m 0 c).arrAt 7 cfg0.N = fun i : S16384x16384.Idx => cdA m c (i 0) (i 1) := by
  refine (dats m 0 c).arrAt_eq_of_covers 7 _ (by decide +kernel) fun t hf y => ?_
  blk_simp
  rw [after0_7, outs7]
  refine congrArg₂ (cdA m c) (Fin.ext ?_) (Fin.ext ?_)
  · blk_simp [ix_7]; show 256 * t.val + (y 0).val = _; omega
  · blk_simp [ix_7]

theorem arr6_eq : (dats m 0 c).arrAt 6 cfg0.N = fun i : S16384x2048.Idx =>
    (∑ k : Fin 16384, cdA m c (i 0) k * (V m c main_arg4 : Vec Ideal S16384x2048 .fp8e4m3) (ix2 k (i 1)))
      * (k0_pay3 (F := Ideal) (V m c main_arg3) (ix2 0 0) * (V m c main_v5 : Vec Ideal S1x1 .f32) (ix2 0 0)) := by
  refine (dats m 0 c).arrAt_eq_of_covers 6 _ (by decide +kernel) fun t hf y => ?_
  blk_simp
  rw [after0_6, outs6]
  have e0 : (((cfg0.win 6).blk t).view.emb y 0 : Fin 16384) = row t (y 0) := Fin.ext (by
    blk_simp [ix_6]; show _ = 256 * t.val + (y 0).val; omega)
  have e1 : (((cfg0.win 6).blk t).view.emb y 1 : Fin 2048) = y 1 := Fin.ext (by blk_simp [ix_6])
  exact congrArg₂ (fun (a : Fin 16384) (b : Fin 2048) => (∑ k : Fin 16384, cdA m c a k * (V m c main_arg4 : Vec Ideal S16384x2048 .fp8e4m3) (ix2 k b))
      * (k0_pay3 (F := Ideal) (V m c main_arg3) (ix2 0 0) * (V m c main_v5 : Vec Ideal S1x1 .f32) (ix2 0 0))) e0.symm e1.symm

theorem arr8_eq : (dats m 0 c).arrAt 8 cfg0.N = k0_pay3 (F := Ideal) (V m c main_arg3) := by
  refine (dats m 0 c).arrAt_eq_of_covers 8 _ (by decide +kernel) fun t hf y => ?_
  blk_simp
  rw [after0_8, outs8]
  refine congrArg (k0_pay3 (F := Ideal) (V m c main_arg3)) ?_
  blk_ext [ix_8]

end Cert.KernelIdeal.Val

end
-- ==== Proof.Expo.lean ====
/- The scale's exponent: for a number in the range of normal exponents, the integer operations on the exponent field give the
   powers of two of the exponent found by logarithms. -/
module

public import Idealize.ShloMosaic.PureOps.Ideal.Laws

@[expose] public section

noncomputable section

namespace Cert.Val

open Idealize.ShloMosaic

/-- The exponent part of the kernel, from the exponent field's number. -/
def field (b : BitVec 32) : BitVec 32 := (b.sshiftRight 23) &&& 255#32

def expo32 (b : BitVec 32) : BitVec 32 := if field b = 0#32 then 0#32 else field b - 126#32

set_option maxRecDepth 20000 in
theorem up_bits : ∀ k : Fin 253, 1 ≤ k.val →
    (127#32 + expo32 (BitVec.ofNat 32 k.val <<< 23)) <<< 23 = BitVec.ofNat 32 (k.val + 1) <<< 23 := by decide

set_option maxRecDepth 20000 in
theorem down_bits : ∀ k : Fin 253, 1 ≤ k.val →
    (127#32 - expo32 (BitVec.ofNat 32 k.val <<< 23)) <<< 23 = BitVec.ofNat 32 (253 - k.val) <<< 23 := by decide

set_option maxRecDepth 20000 in
theorem pow_parts : ∀ j : Fin 254, 1 ≤ j.val →
    (BitVec.ofNat 32 j.val <<< 23).extractLsb' 31 1 = 0#1 ∧ ((BitVec.ofNat 32 j.val <<< 23).extractLsb' 23 8).toNat = j.val
      ∧ ((BitVec.ofNat 32 j.val <<< 23).extractLsb' 0 23).toNat = 0 := by decide

/-- An exponent field with nothing else is a power of two. -/
theorem pow_bits (j : ℕ) (h1 : 1 ≤ j) (h2 : j < 254) :
    Ideal.ofBits .f32 (BitVec.ofNat 32 j <<< 23) = (((2 : ℝ) ^ ((j : ℤ) - 127) : ℝ) : EReal) := by
  obtain ⟨hs, he, hf⟩ := pow_parts ⟨j, h2⟩ h1
  simp only at hs he hf
  have e1 : ¬ j = 255 := by omega
  have e2 : ¬ j = 0 := by omega
  show Ideal.ieee 8 23 _ = _
  unfold Ideal.ieee
  simp only [hs, he, hf]
  norm_num [e1, e2]
  have : ((j : ℤ) - 127) = 23 + ((j : ℤ) - 127 - 23) := by ring
  conv_rhs => rw [this, zpow_add₀ (by norm_num)]
  norm_num

theorem bits_127 : Ideal.ofBits .f32 0x42FE0000#32 = ((127 : ℝ) : EReal) := by
  simp [Ideal.ofBits, Ideal.ieee]
  rw [← EReal.coe_mul]
  norm_num
theorem bits_1 : Ideal.ofBits .f32 0x3F800000#32 = ((1 : ℝ) : EReal) :=
  (pow_bits 127 (by norm_num) (by norm_num)).trans (by norm_num)
theorem bits_2 : Ideal.ofBits .f32 0x40000000#32 = ((2 : ℝ) : EReal) :=
  (pow_bits 128 (by norm_num) (by norm_num)).trans (by norm_num)
theorem bits_lo : Ideal.ofBits .f32 0x00800000#32 = (((2 : ℝ) ^ (-126 : ℤ) : ℝ) : EReal) := pow_bits 1 (by norm_num) (by norm_num)
theorem bits_hi : Ideal.ofBits .f32 0x7E800000#32 = (((2 : ℝ) ^ (126 : ℤ) : ℝ) : EReal) := pow_bits 253 (by norm_num) (by norm_num)
theorem bits_0 : Ideal.ofBits .f32 0x00000000#32 = 0 := by
  simp [Ideal.ofBits, Ideal.ieee]

/-- The whole part of the binary logarithm, as both programs write it. -/
abbrev flog (v : EReal) : EReal :=
  Ideal.liftRound Int.floor (Ideal.div (Ideal.log v) (Ideal.log (Ideal.ofBits .f32 0x40000000#32)))

/-- In the range it is an integer in the range of exponents. -/
theorem flog_eq (v : EReal) (lo : Ideal.ofBits .f32 0x00800000#32 ≤ v) (hi : v < Ideal.ofBits .f32 0x7E800000#32) :
    ∃ n : ℤ, flog v = ((n : ℝ) : EReal) ∧ -126 ≤ n ∧ n < 126 := by
  rw [bits_lo] at lo
  rw [bits_hi] at hi
  induction v using EReal.rec with
  | bot => simp at lo
  | top => simp at hi
  | coe r =>
    rw [EReal.coe_le_coe_iff] at lo
    rw [EReal.coe_lt_coe_iff] at hi
    have h0 : 0 < r := lt_of_lt_of_le (by positivity) lo
    have h2 : 0 < Real.log 2 := Real.log_pos (by norm_num)
    have hl : Real.log ((2 : ℝ) ^ (-126 : ℤ)) = -126 * Real.log 2 := by rw [Real.log_zpow]; norm_num
    have hh : Real.log ((2 : ℝ) ^ (126 : ℤ)) = 126 * Real.log 2 := by rw [Real.log_zpow]; norm_num
    have l1 := Real.log_le_log (by positivity) lo
    have l2 := Real.log_lt_log h0 hi
    rw [hl] at l1
    rw [hh] at l2
    refine ⟨⌊Real.log r * (1 / Real.log 2)⌋, ?_, ?_, ?_⟩
    · unfold flog
      have e2 : Ideal.log (Ideal.ofBits .f32 0x40000000#32) = ((Real.log 2 : ℝ) : EReal) := by
        rw [bits_2]; exact if_neg (by norm_num)
      have er : Ideal.log ((r : ℝ) : EReal) = ((Real.log r : ℝ) : EReal) := if_neg (not_le.mpr h0)
      rw [e2, er, Ideal.div_coe h2.ne', ← EReal.coe_mul]
      rfl
    · rw [Int.le_floor, mul_one_div, le_div_iff₀ h2]; exact_mod_cast l1
    · rw [Int.floor_lt, mul_one_div, div_lt_iff₀ h2]; exact_mod_cast l2

/-- The exponent field the kernel makes of `v`. -/
abbrev word (v : EReal) : BitVec 32 :=
  if v = 0 then 0#32 else Ideal.fptosi 32 (flog v + Ideal.ofBits .f32 0x42FE0000#32) <<< 23

/-- The exponent the reference makes of `v`. -/
abbrev expo (v : EReal) : EReal := if v = 0 then 0 else flog v + Ideal.ofBits .f32 0x3F800000#32

/-- The range in which the field holds the exponent. -/
def Normal (v : EReal) : Prop := v = 0 ∨ (Ideal.ofBits .f32 0x00800000#32 ≤ v ∧ v < Ideal.ofBits .f32 0x7E800000#32)

theorem word_eq (n : ℤ) (h1 : -126 ≤ n) (h2 : n < 126) :
    Ideal.fptosi 32 (((n : ℝ) : EReal) + Ideal.ofBits .f32 0x42FE0000#32) = BitVec.ofNat 32 (n + 127).toNat := by
  have hc : ((n : ℝ) : EReal) + Ideal.ofBits .f32 0x42FE0000#32 = (((n + 127 : ℤ) : ℝ) : EReal) := by
    rw [bits_127, ← EReal.coe_add]; norm_num
  have hp : (0 : ℝ) ≤ ((n + 127 : ℤ) : ℝ) := by exact_mod_cast (by omega : (0 : ℤ) ≤ n + 127)
  rw [hc]
  unfold Ideal.fptosi
  rw [Ideal.toIntClamped_coe, if_pos hp, Int.floor_intCast]
  have : max (-((2 ^ (32 - 1) : ℕ) : ℤ)) (min (((2 ^ (32 - 1) : ℕ) : ℤ) - 1) (n + 127)) = ((n + 127).toNat : ℤ) := by
    norm_num; omega
  rw [this, BitVec.ofInt_natCast]

theorem exp2_int (n : ℤ) : Ideal.exp2 ((n : ℝ) : EReal) = (((2 : ℝ) ^ n : ℝ) : EReal) := by
  show ((Real.rpow 2 (n : ℝ) : ℝ) : EReal) = _
  congr 1
  exact Real.rpow_intCast 2 n

theorem up_eq (v : EReal) (h : Normal v) :
    Ideal.ofBits .f32 ((127#32 + expo32 (word v)) <<< 23) = Ideal.exp2 (expo v) := by
  by_cases h0 : v = 0
  · simp only [word, expo, h0, if_true]
    rw [show (127#32 + expo32 0#32) <<< 23 = BitVec.ofNat 32 127 <<< 23 from by decide, pow_bits 127 (by norm_num) (by norm_num)]
    have := exp2_int 0
    simpa using this.symm
  · obtain ⟨n, hn, n1, n2⟩ := flog_eq v (h.resolve_left h0).1 (h.resolve_left h0).2
    simp only [word, expo, h0, if_false]
    rw [hn, word_eq n n1 n2, up_bits ⟨(n + 127).toNat, by omega⟩ (by show 1 ≤ (n + 127).toNat; omega),
      pow_bits _ (by omega) (by show (n + 127).toNat + 1 < 254; omega), bits_1, ← EReal.coe_add]
    have := exp2_int (n + 1)
    push_cast at this ⊢
    rw [this]
    congr 2
    omega

theorem down_eq (v : EReal) (h : Normal v) :
    Ideal.ofBits .f32 ((127#32 - expo32 (word v)) <<< 23) = Ideal.exp2 (0 - expo v) := by
  by_cases h0 : v = 0
  · simp only [word, expo, h0, if_true]
    rw [show (127#32 - expo32 0#32) <<< 23 = BitVec.ofNat 32 127 <<< 23 from by decide, pow_bits 127 (by norm_num) (by norm_num)]
    have := exp2_int 0
    simpa using this.symm
  · obtain ⟨n, hn, n1, n2⟩ := flog_eq v (h.resolve_left h0).1 (h.resolve_left h0).2
    simp only [word, expo, h0, if_false]
    rw [hn, word_eq n n1 n2, down_bits ⟨(n + 127).toNat, by omega⟩ (by show 1 ≤ (n + 127).toNat; omega),
      pow_bits _ (by show 1 ≤ 253 - (n + 127).toNat; omega) (by show 253 - (n + 127).toNat < 254; omega), bits_1, ← EReal.coe_add]
    have hz : (0 : EReal) - ((n + 1 : ℝ) : EReal) = (((-(n + 1) : ℤ) : ℝ) : EReal) := by
      push_cast; rw [zero_sub]
    rw [hz, exp2_int]
    congr 2
    show (((253 - (n + 127).toNat : ℕ)) : ℤ) - 127 = -(n + 1)
    omega

end Cert.Val

end
-- ==== Proof.Top.lean ====
/- The kernel's scale and inverse scale, the reference's exponent and the precondition, each read at the largest partial maximum. -/
module

public import proofs.«01_k».proof.Pre_normal
public import proofs.«01_k».proof.Proof.Expo
public import proofs.«01_k».proof.Proof.Gen.KernelIdeal.Skeleton
public import proofs.«01_k».proof.Proof.Gen.ReferenceIdeal.Skeleton
public import Idealize.ShloMosaic.Lib.Pointwise
public import Idealize.ShloMosaic.Lib.Pointwise.Reduce
public import Idealize.ShloMosaic.Lib.Pointwise.Reshape
public import Idealize.ShloMosaic.Lib.Pointwise.ShapeOps

@[expose] public section

noncomputable section

namespace Cert.Val

open Idealize.ShloMosaic Idealize.ShloMosaic.TcCoe

/-- The shape facts of the precondition. -/
theorem pfacts : Cert.Pre_normal.Facts :=
  ⟨by decide, by decide⟩

/-- The largest partial maximum, scaled by one over the largest code. -/
def top (a : Vec Ideal Cert.KernelIdeal.S8x128 .f32) : EReal :=
  Finset.fold max (Ideal.ofBits .f32 0xFF800000#32) (fun x : Fin 8 × Fin 128 => a (ix2 x.1 x.2)) Finset.univ * Ideal.ofBits .f32 0x3B124925#32

theorem shl_23 (b : BitVec 32) : IntOp.shli .vector b 23#32 = b <<< 23 := rfl
theorem shr_23 (b : BitVec 32) : IntOp.shrsi .vector b 23#32 = b.sshiftRight 23 := rfl

theorem sel_expo (b : BitVec 32) :
    Scalar.select (IntOp.cmpi .eq (IntOp.andi (IntOp.shrsi .vector b 23#32) 255#32) 0#32) 0#32
      (IntOp.subi (IntOp.andi (IntOp.shrsi .vector b 23#32) 255#32) 126#32) = expo32 b := by
  rw [shr_23]
  unfold expo32
  show Scalar.select (IntOp.cmpi .eq (field b) 0#32) 0#32 (field b - 126#32) = _
  by_cases h : field b = 0#32
  · simp [h, Scalar.select, IntOp.cmpi]
  · simp only [Scalar.select, IntOp.cmpi, h, if_false]
    exact if_neg (by rw [show (field b == 0#32) = false from beq_eq_false_iff_ne.mpr h]; decide)

theorem up_apply (a : Vec Ideal Cert.KernelIdeal.S8x128 .f32) :
    Cert.KernelIdeal.Gen.k0_pay3 (F := Ideal) a (ix2 0 0) = Ideal.ofBits .f32 ((127#32 + expo32 (word (top a))) <<< 23) := by
  unfold Cert.KernelIdeal.Gen.k0_pay3 Cert.KernelIdeal.Gen.k0_pay2
  pointwise
  rw [sel_expo, shl_23, shl_23]
  rfl

theorem down_apply (a : Vec Ideal Cert.KernelIdeal.S8x128 .f32) :
    Cert.KernelIdeal.Gen.k0_pay5 (F := Ideal) (Cert.KernelIdeal.Gen.k0_pay4 (F := Ideal) a) (ix2 0 0)
      = Ideal.ofBits .f32 ((127#32 - expo32 (word (top a))) <<< 23) := by
  unfold Cert.KernelIdeal.Gen.k0_pay5 Cert.KernelIdeal.Gen.k0_pay4 Cert.KernelIdeal.Gen.k0_pay2
  pointwise
  rw [sel_expo, shl_23, shl_23]
  rfl

/-- The factor one over the largest code is not zero. -/
theorem inv_max_ne_zero : Ideal.ofBits .f32 0x3B124925#32 ≠ 0 := by
  simp [Ideal.ofBits, Ideal.ieee]

/-- Testing for zero before or after scaling by a nonzero factor is one test. -/
theorem scaled_eq_zero (e : EReal) : e * Ideal.ofBits .f32 0x3B124925#32 = 0 ↔ e = 0 := by
  rw [mul_eq_zero]; exact ⟨fun h => h.resolve_right inv_max_ne_zero, Or.inl⟩

theorem ref_apply (a : Vec Ideal Cert.KernelIdeal.S8x128 .f32) :
    Cert.ReferenceIdeal.Gen.k0_pay2 (F := Ideal) a (ix2 0 0) = expo (top a) := by
  unfold Cert.ReferenceIdeal.Gen.k0_pay2 expo
  rw [bits_1, EReal.coe_one]
  pointwise
  unfold top
  simp only [scaled_eq_zero]
  rfl

theorem or_and_bits : ∀ p q r : Bool, IntOp.ori (BitVec.ofBool p) (IntOp.andi (BitVec.ofBool q) (BitVec.ofBool r)) = 1#1 →
    p = true ∨ (q = true ∧ r = true) := by decide

theorem pre_apply (x : FVec Ideal Cert.Pre_normal.S2x8192x16384 .bf16) (g : FVec Ideal Cert.Pre_normal.S16384 .bf16)
    (r : FVec Ideal Cert.Pre_normal.S16384 .f32) (a : Vec Ideal Cert.KernelIdeal.S8x128 .f32)
    (w : FVec Ideal Cert.Pre_normal.S16384x2048 .fp8e4m3) (ws : FVec Ideal Cert.Pre_normal.S_ .f32)
    (h : @Cert.Pre_normal.fn pfacts Ideal _ x g r a w ws = fun _ => 1#1) : Normal (top a) := by
  have := congrFun h (fun i => i.elim0)
  unfold Cert.Pre_normal.fn at this
  pointwise at this
  have := or_and_bits _ _ _ this
  simp only [decide_eq_true_eq] at this
  exact this

end Cert.Val

end
-- ==== Proof.RefBody.lean ====
/- What the reference stores, entry by entry over the extended reals. -/
module

public import proofs.«01_k».proof.Proof.Gen.ReferenceIdeal.Value
public import Idealize.ShloMosaic.Lib.Pointwise
public import Idealize.ShloMosaic.Lib.Pointwise.Reduce
public import Idealize.ShloMosaic.Lib.Pointwise.Reshape
public import Idealize.ShloMosaic.Lib.Pointwise.ShapeOps
public import Idealize.ShloMosaic.Lib.Pointwise.Contract
public import Idealize.ShloMosaic.Lib.Pointwise.Sums
public import Idealize.ShloMosaic.Lib.Pipeline.ValueKit.Geometry
public import Idealize.ShloMosaic.PureOps.Ideal.Laws

@[expose] public section

noncomputable section

namespace Cert.ReferenceIdeal.Val

open Cert.ReferenceIdeal Cert.ReferenceIdeal.Gen Idealize.ShloMosaic Idealize.ShloMosaic.TcCoe Idealize.SL.Sem

theorem off_zero : (![0, 0] : Fin 2 → ℕ) = fun _ => 0 := funext (Fin.forall_fin_two.mpr ⟨rfl, rfl⟩)

theorem code_apply (x : Vec Ideal S16384x16384 .bf16) (r : Vec Ideal S16384x1 .f32) (g : Vec Ideal S1x16384 .bf16) (a : Vec Ideal S8x128 .f32)
    (j : Fin 16384) (k : Fin 16384) :
    k0_pay4 (F := Ideal) x r g a (ix2 j k) = min (Ideal.ofBits .f32 0x43E00000#32) (max (Ideal.ofBits .f32 0xC3E00000#32)
      (x (ix2 j k) * r (ix2 j 0) * g (ix2 0 k) * Ideal.exp2 (0 - k0_pay2 (F := Ideal) a (ix2 0 0)))) := by
  unfold k0_pay4
  generalize k0_pay2 (F := Ideal) a = e
  pointwise
  rfl

theorem out_apply (s : FVec Ideal S1x1 .f32) (p : FVec Ideal S16384x16384 .fp8e4m3) (w : Vec Ideal S16384x2048 .fp8e4m3) (ws : Vec Ideal S1x1 .f32)
    (j : Fin 16384) (o : Fin 2048) :
    k0_pay1 (F := Ideal) s p w ws (ix2 j o) = (∑ k : Fin 16384, p (ix2 j k) * w (ix2 k o)) * (s (ix2 0 0) * ws (ix2 0 0)) := by
  unfold k0_pay1
  pointwise

variable (x0 : Vec Ideal S16384x16384 .bf16) (x1 : Vec Ideal S1x16384 .bf16) (x2 : Vec Ideal S16384x1 .f32) (x3 : Vec Ideal S8x128 .f32)
  (x4 : Vec Ideal S16384x2048 .fp8e4m3) (x5 : Vec Ideal S1x1 .f32)

/-- The code at row `j`, column `k`. -/
def cdR (j : Fin 16384) (k : Fin 16384) : EReal :=
  min (Ideal.ofBits .f32 0x43E00000#32) (max (Ideal.ofBits .f32 0xC3E00000#32)
      (x0 (ix2 j k) * x2 (ix2 j 0) * x1 (ix2 0 k) * Ideal.exp2 (0 - k0_pay2 (F := Ideal) x3 (ix2 0 0))))

theorem out7_eq : out0_7 (F := Ideal) x0 x1 x2 x3 x4 x5 = fun y => cdR x0 x1 x2 x3 (y 0) (y 1) := by
  unfold out0_7 k0_pay6
  rw [View.canon_unit_zero off_zero, View.ld_unit_zero off_zero, View.ld_unit_zero off_zero, View.ld_unit_zero off_zero, View.ld_unit_zero off_zero]
  funext y
  obtain ⟨j, k, rfl⟩ : ∃ (j : Fin 16384) (k : Fin 16384), y = ix2 j k := ⟨y 0, y 1, eq_ix2 (n0 := 16384) (n1 := 16384) y⟩
  exact code_apply _ _ _ _ j k

theorem out6_eq : out0_6 (F := Ideal) x0 x1 x2 x3 x4 x5 = fun y => (∑ k : Fin 16384, cdR x0 x1 x2 x3 (y 0) k * x4 (ix2 k (y 1)))
    * (k0_pay3 (F := Ideal) x3 (ix2 0 0) * x5 (ix2 0 0)) := by
  unfold out0_6 k0_pay6 k0_pay5
  rw [View.canon_unit_zero off_zero, View.ld_unit_zero off_zero, View.ld_unit_zero off_zero, View.ld_unit_zero off_zero, View.ld_unit_zero off_zero,
    View.ld_unit_zero off_zero, View.ld_unit_zero off_zero]
  funext y
  obtain ⟨j, o, rfl⟩ : ∃ (j : Fin 16384) (o : Fin 2048), y = ix2 j o := ⟨y 0, y 1, eq_ix2 (n0 := 16384) (n1 := 2048) y⟩
  refine (out_apply _ _ _ _ j o).trans ?_
  rw [Finset.sum_congr rfl fun k _ => congrArg (· * _) (code_apply x0 x2 x1 x3 j k)]
  rfl

theorem out8_eq : out0_8 (F := Ideal) x0 x1 x2 x3 x4 x5 = k0_pay3 (F := Ideal) x3 := by
  unfold out0_8 k0_pay5
  rw [View.canon_unit_zero off_zero, View.ld_unit_zero off_zero]

end Cert.ReferenceIdeal.Val

end
-- ==== Proof.RefArrays.lean ====
/- The reference's three output arrays after the run, each entry a function of the arrays its call reads. -/
module

public import proofs.«01_k».proof.Proof.RefBody

@[expose] public section

noncomputable section

namespace Cert.ReferenceIdeal.Val

open Cert.ReferenceIdeal Cert.ReferenceIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem ix_0 : ∀ t : Fin cfg0.N, win0_0.index t = ![0, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![0, 0] := (by decide +kernel : ∀ t : Fin grid0.N, _)
theorem ix_3 : ∀ t : Fin cfg0.N, win0_3.index t = ![0, 0] := (by decide +kernel : ∀ t : Fin grid0.N, _)
theorem ix_4 : ∀ t : Fin cfg0.N, win0_4.index t = ![0, 0] := (by decide +kernel : ∀ t : Fin grid0.N, _)
theorem ix_5 : ∀ t : Fin cfg0.N, win0_5.index t = ![0, 0] := (by decide +kernel : ∀ t : Fin grid0.N, _)
theorem ix_6 : ∀ t : Fin cfg0.N, win0_6.index t = ![0, 0] := (by decide +kernel : ∀ t : Fin grid0.N, _)
theorem ix_7 : ∀ t : Fin cfg0.N, win0_7.index t = ![0, 0] := (by decide +kernel : ∀ t : Fin grid0.N, _)
theorem ix_8 : ∀ t : Fin cfg0.N, win0_8.index t = ![0, 0] := (by decide +kernel : ∀ t : Fin grid0.N, _)

theorem blk_0 (t : Fin cfg0.N) : (iblk m c 0 t : Vec Ideal S16384x16384 .bf16) = (V m c main_v0 : Vec Ideal S16384x16384 .bf16) := by
  funext y; blk_ext [iblk, ix_0]
theorem blk_1 (t : Fin cfg0.N) : (iblk m c 1 t : Vec Ideal S1x16384 .bf16) = (V m c main_v1 : Vec Ideal S1x16384 .bf16) := by
  funext y; blk_ext [iblk, ix_1]
theorem blk_2 (t : Fin cfg0.N) : (iblk m c 2 t : Vec Ideal S16384x1 .f32) = (V m c main_v2 : Vec Ideal S16384x1 .f32) := by
  funext y; blk_ext [iblk, ix_2]
theorem blk_3 (t : Fin cfg0.N) : (iblk m c 3 t : Vec Ideal S8x128 .f32) = (V m c main_arg3 : Vec Ideal S8x128 .f32) := by
  funext y; blk_ext [iblk, ix_3]
theorem blk_4 (t : Fin cfg0.N) : (iblk m c 4 t : Vec Ideal S16384x2048 .fp8e4m3) = (V m c main_arg4 : Vec Ideal S16384x2048 .fp8e4m3) := by
  funext y; blk_ext [iblk, ix_4]
theorem blk_5 (t : Fin cfg0.N) : (iblk m c 5 t : Vec Ideal S1x1 .f32) = (V m c main_v3 : Vec Ideal S1x1 .f32) := by
  funext y; blk_ext [iblk, ix_5]

theorem arr7_eq : (dats m 0 c).arrAt 7 cfg0.N = fun i : S16384x16384.Idx =>
    cdR (V m c main_v0) (V m c main_v1) (V m c main_v2) (V m c main_arg3) (i 0) (i 1) := by
  refine (dats m 0 c).arrAt_eq_of_covers 7 _ (by decide +kernel) fun t hf y => ?_
  blk_simp
  rw [after0_7, out7_eq, blk_0, blk_1, blk_2, blk_3]
  refine congrArg₂ (cdR _ _ _ _) (Fin.ext ?_) (Fin.ext ?_) <;> blk_simp [ix_7]

theorem arr6_eq : (dats m 0 c).arrAt 6 cfg0.N = fun i : S16384x2048.Idx =>
    (∑ k : Fin 16384, cdR (V m c main_v0) (V m c main_v1) (V m c main_v2) (V m c main_arg3) (i 0) k
      * (V m c main_arg4 : Vec Ideal S16384x2048 .fp8e4m3) (ix2 k (i 1)))
      * (k0_pay3 (F := Ideal) (V m c main_arg3) (ix2 0 0) * (V m c main_v3 : Vec Ideal S1x1 .f32) (ix2 0 0)) := by
  refine (dats m 0 c).arrAt_eq_of_covers 6 _ (by decide +kernel) fun t hf y => ?_
  blk_simp
  rw [after0_6, out6_eq, blk_0, blk_1, blk_2, blk_3, blk_4, blk_5]
  have e0 : (((cfg0.win 6).blk t).view.emb y 0 : Fin 16384) = y 0 := Fin.ext (by blk_simp [ix_6])
  have e1 : (((cfg0.win 6).blk t).view.emb y 1 : Fin 2048) = y 1 := Fin.ext (by blk_simp [ix_6])
  exact congrArg₂ (fun (a : Fin 16384) (b : Fin 2048) =>
    (∑ k : Fin 16384, cdR (V m c main_v0) (V m c main_v1) (V m c main_v2) (V m c main_arg3) a k
      * (V m c main_arg4 : Vec Ideal S16384x2048 .fp8e4m3) (ix2 k b))
      * (k0_pay3 (F := Ideal) (V m c main_arg3) (ix2 0 0) * (V m c main_v3 : Vec Ideal S1x1 .f32) (ix2 0 0))) e0.symm e1.symm

theorem arr8_eq : (dats m 0 c).arrAt 8 cfg0.N = k0_pay3 (F := Ideal) (V m c main_arg3) := by
  refine (dats m 0 c).arrAt_eq_of_covers 8 _ (by decide +kernel) fun t hf y => ?_
  blk_simp
  rw [after0_8, out8_eq, blk_3]
  refine congrArg (k0_pay3 (F := Ideal) (V m c main_arg3)) ?_
  blk_ext [ix_8]

end Cert.ReferenceIdeal.Val

end
-- ==== Proof.Equal.lean ====
/- The two programs' output arrays are equal when their argument arrays are and the precondition holds. -/
module

public import proofs.«01_k».proof.Defs
public import proofs.«01_k».proof.Proof.Arrays
public import proofs.«01_k».proof.Proof.Top
public import proofs.«01_k».proof.Proof.RefArrays

@[expose] public section

noncomputable section

namespace Cert.Val

open Idealize.ShloMosaic Idealize.ShloMosaic.TcCoe Idealize.SL.Sem

theorem exp2_apply (a : Vec Ideal Cert.KernelIdeal.S8x128 .f32) (i : Cert.ReferenceIdeal.S1x1.Idx) :
    Cert.ReferenceIdeal.Gen.k0_pay3 (F := Ideal) a i = Ideal.exp2 (Cert.ReferenceIdeal.Gen.k0_pay2 (F := Ideal) a i) := by
  unfold Cert.ReferenceIdeal.Gen.k0_pay3
  generalize Cert.ReferenceIdeal.Gen.k0_pay2 (F := Ideal) a = e
  rfl

theorem scale_eq (a : Vec Ideal Cert.KernelIdeal.S8x128 .f32) (h : Normal (top a)) :
    Cert.KernelIdeal.Gen.k0_pay3 (F := Ideal) a = Cert.ReferenceIdeal.Gen.k0_pay3 (F := Ideal) a := by
  funext i
  obtain ⟨j, k, rfl⟩ : ∃ (j : Fin 1) (k : Fin 1), i = ix2 j k := ⟨i 0, i 1, eq_ix2 (n0 := 1) (n1 := 1) i⟩
  obtain rfl : j = 0 := Subsingleton.elim _ _
  obtain rfl : k = 0 := Subsingleton.elim _ _
  rw [up_apply, up_eq _ h, exp2_apply, ref_apply]

theorem inv_apply (a : Vec Ideal Cert.KernelIdeal.S8x128 .f32) (h : Normal (top a)) :
    Cert.KernelIdeal.Val.invOf (F := Ideal) a (ix2 0 0) = Ideal.exp2 (0 - Cert.ReferenceIdeal.Gen.k0_pay2 (F := Ideal) a (ix2 0 0)) := by
  exact (down_apply a).trans ((down_eq _ h).trans (congrArg (fun e => Ideal.exp2 (0 - e)) (ref_apply a).symm))

section Host

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

open Cert.KernelIdeal Cert.KernelIdeal.Gen in
theorem x_kernel : V m c main_v0 = shapeCast S16384x16384 (m ((c : Thread nD τ).loc main_arg0)) shapeCasts_S2x8192x16384_S16384x16384 := by
  simp only [V, hostOps0]
  after_results
  rfl

open Cert.KernelIdeal Cert.KernelIdeal.Gen in
theorem g_kernel : V m c main_v2 = shapeCast S1x16384 (m ((c : Thread nD τ).loc main_arg1)) shapeCasts_S16384_S1x16384 := by
  simp only [V, hostOps0]
  after_results
  rfl

open Cert.KernelIdeal Cert.KernelIdeal.Gen in
theorem r_kernel : V m c main_v4 = broadcastInDim S16384x128 ![0, 1] bcast_S16384x1_S16384x128_0_1
    (shapeCast S16384x1 (m ((c : Thread nD τ).loc main_arg2)) shapeCasts_S16384_S16384x1) := by
  simp only [V, hostOps0]
  after_results
  rfl

open Cert.KernelIdeal Cert.KernelIdeal.Gen in
theorem ws_kernel : V m c main_v5 = shapeCast S1x1 (m ((c : Thread nD τ).loc main_arg5)) shapeCasts_S_S1x1 := by
  simp only [V, hostOps0]
  after_results
  rfl

open Cert.ReferenceIdeal Cert.ReferenceIdeal.Gen in
theorem x_ref : V m' c main_v0 = shapeCast S16384x16384 (m' ((c : Thread nD τ).loc main_arg0)) shapeCasts_S2x8192x16384_S16384x16384 := by
  simp only [V, hostOps0]
  after_results
  rfl

open Cert.ReferenceIdeal Cert.ReferenceIdeal.Gen in
theorem g_ref : V m' c main_v1 = shapeCast S1x16384 (m' ((c : Thread nD τ).loc main_arg1)) shapeCasts_S16384_S1x16384 := by
  simp only [V, hostOps0]
  after_results
  rfl

open Cert.ReferenceIdeal Cert.ReferenceIdeal.Gen in
theorem r_ref : V m' c main_v2 = shapeCast S16384x1 (m' ((c : Thread nD τ).loc main_arg2)) shapeCasts_S16384_S16384x1 := by
  simp only [V, hostOps0]
  after_results
  rfl

open Cert.ReferenceIdeal Cert.ReferenceIdeal.Gen in
theorem ws_ref : V m' c main_v3 = shapeCast S1x1 (m' ((c : Thread nD τ).loc main_arg5)) shapeCasts_S_S1x1 := by
  simp only [V, hostOps0]
  after_results
  rfl

end Host

/-- A column repeated along the lanes, read at any lane. -/
theorem lane_apply (r : Vec Ideal Cert.KernelIdeal.S16384x1 .f32) (j : Fin 16384) (l : Fin 128) :
    broadcastInDim Cert.KernelIdeal.S16384x128 ![0, 1] Cert.KernelIdeal.Gen.bcast_S16384x1_S16384x128_0_1 r (ix2 j l) = r (ix2 j 0) := by
  pointwise

section Result

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The argument arrays of the two programs are the same. -/
def SameArgs : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

variable {m m' c} (h : SameArgs m m' c) (hN : Normal (top (Cert.KernelIdeal.Gen.V m c Cert.KernelIdeal.main_arg3)))
include h

theorem x_same : Cert.ReferenceIdeal.Gen.V m' c Cert.ReferenceIdeal.main_v0 = Cert.KernelIdeal.Gen.V m c Cert.KernelIdeal.main_v0 :=
  (x_ref m' c).trans ((congrArg (shapeCast _ · _) h.1).trans (x_kernel m c).symm)

theorem g_same : Cert.ReferenceIdeal.Gen.V m' c Cert.ReferenceIdeal.main_v1 = Cert.KernelIdeal.Gen.V m c Cert.KernelIdeal.main_v2 :=
  (g_ref m' c).trans ((congrArg (shapeCast _ · _) h.2.1).trans (g_kernel m c).symm)

theorem r_same (j : Fin 16384) (l : Fin 128) :
    (Cert.KernelIdeal.Gen.V m c Cert.KernelIdeal.main_v4 : Vec Ideal Cert.KernelIdeal.S16384x128 .f32) (ix2 j l)
      = (Cert.ReferenceIdeal.Gen.V m' c Cert.ReferenceIdeal.main_v2 : Vec Ideal Cert.ReferenceIdeal.S16384x1 .f32) (ix2 j 0) := by
  rw [r_kernel, r_ref, h.2.2.1]
  exact lane_apply _ j l

theorem a_same : Cert.ReferenceIdeal.Gen.V m' c Cert.ReferenceIdeal.main_arg3 = Cert.KernelIdeal.Gen.V m c Cert.KernelIdeal.main_arg3 :=
  (Cert.ReferenceIdeal.Gen.V_main_arg3 m' c).trans (h.2.2.2.1.trans (Cert.KernelIdeal.Gen.V_main_arg3 m c).symm)

theorem w_same : Cert.ReferenceIdeal.Gen.V m' c Cert.ReferenceIdeal.main_arg4 = Cert.KernelIdeal.Gen.V m c Cert.KernelIdeal.main_arg4 :=
  (Cert.ReferenceIdeal.Gen.V_main_arg4 m' c).trans (h.2.2.2.2.1.trans (Cert.KernelIdeal.Gen.V_main_arg4 m c).symm)

theorem ws_same : Cert.ReferenceIdeal.Gen.V m' c Cert.ReferenceIdeal.main_v3 = Cert.KernelIdeal.Gen.V m c Cert.KernelIdeal.main_v5 :=
  (ws_ref m' c).trans ((congrArg (shapeCast _ · _) h.2.2.2.2.2).trans (ws_kernel m c).symm)

include hN in
theorem code_same (j : Fin 16384) (k : Fin 16384) :
    Cert.ReferenceIdeal.Val.cdR (Cert.ReferenceIdeal.Gen.V m' c Cert.ReferenceIdeal.main_v0) (Cert.ReferenceIdeal.Gen.V m' c Cert.ReferenceIdeal.main_v1)
      (Cert.ReferenceIdeal.Gen.V m' c Cert.ReferenceIdeal.main_v2) (Cert.ReferenceIdeal.Gen.V m' c Cert.ReferenceIdeal.main_arg3) j k
      = Cert.KernelIdeal.Val.cdA m c j k := by
  unfold Cert.ReferenceIdeal.Val.cdR Cert.KernelIdeal.Val.cdA
  rw [r_same h, a_same h, inv_apply _ hN, x_same h, g_same h]

include hN in
theorem codes_same : (Cert.ReferenceIdeal.Gen.dats m' 0 c).arrAt 7 Cert.ReferenceIdeal.cfg0.N
    = (Cert.KernelIdeal.Gen.dats m 0 c).arrAt 7 Cert.KernelIdeal.cfg0.N := by
  rw [Cert.ReferenceIdeal.Val.arr7_eq, Cert.KernelIdeal.Val.arr7_eq]
  funext i
  exact code_same h hN (i 0) (i 1)

include hN in
theorem y_same : (Cert.ReferenceIdeal.Gen.dats m' 0 c).arrAt 6 Cert.ReferenceIdeal.cfg0.N
    = (Cert.KernelIdeal.Gen.dats m 0 c).arrAt 6 Cert.KernelIdeal.cfg0.N := by
  rw [Cert.ReferenceIdeal.Val.arr6_eq, Cert.KernelIdeal.Val.arr6_eq]
  funext i
  rw [Finset.sum_congr rfl fun k _ => congrArg (· * _) (code_same h hN (i 0) k), w_same h, ws_same h, a_same h, scale_eq _ hN]

include hN in
theorem scale_same : (Cert.ReferenceIdeal.Gen.dats m' 0 c).arrAt 8 Cert.ReferenceIdeal.cfg0.N
    = (Cert.KernelIdeal.Gen.dats m 0 c).arrAt 8 Cert.KernelIdeal.cfg0.N := by
  rw [Cert.ReferenceIdeal.Val.arr8_eq, Cert.KernelIdeal.Val.arr8_eq, a_same h, scale_eq _ hN]

end Result

/-- The precondition says that the scaled largest entry has a normal exponent. -/
theorem normal_of_pre (m : (ℓ : Loc Cert.KernelIdeal.nD Cert.KernelIdeal.τ Cert.KernelIdeal.sig) → Buf (Elt Ideal) ℓ)
    (h : Cert.Pre_KernelIdeal_normal (hPre_normal := pfacts) m) (c : Dev Cert.KernelIdeal.nD) :
    Normal (top (Cert.KernelIdeal.Gen.V m c Cert.KernelIdeal.main_arg3)) := by
  rw [Cert.KernelIdeal.Gen.V_main_arg3]
  exact pre_apply _ _ _ _ _ _ (h c)

theorem algebraic : Cert.algebraic_KernelIdeal_ReferenceIdeal_pre_normal (hPre_normal := pfacts) := fun m g m' g' hp h =>
  ⟨_, _, _, Cert.KernelIdeal.Value.run_blocks m g,
    (θ_run _ _ _).mono (fun _ p c => ⟨(p c).1.trans (y_same (h c) (normal_of_pre m hp c)), (p c).2.1.trans (codes_same (h c) (normal_of_pre m hp c)), (p c).2.2.1.trans (scale_same (h c) (normal_of_pre m hp c)),
      (p c).2.2.2⟩) (Cert.ReferenceIdeal.Value.run_blocks m' g')⟩

end Cert.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Val.pfacts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, Cert.Val.algebraic⟩

end Cert.Proof

end
